-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_binary [hPre_mask_is_binary : Cert.Pre_mask_is_binary.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_binary [hPre_mask_is_binary : Cert.Pre_mask_is_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mask_is_binary [hKernelIdeal : Cert.KernelIdeal.Facts] [hPre_mask_is_binary : Cert.Pre_mask_is_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mask_is_binary [hReferenceIdeal : Cert.ReferenceIdeal.Facts] [hPre_mask_is_binary : Cert.Pre_mask_is_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_mask_is_binary [hKernelIdeal : Cert.KernelIdeal.Facts] [hReferenceIdeal : Cert.ReferenceIdeal.Facts] [hPre_mask_is_binary : Cert.Pre_mask_is_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_mask_is_binary : Cert.Pre_mask_is_binary.Facts),
    quiescent_Kernel (hKernel := hKernel)
    ∧ quiescent_KernelIdeal (hKernelIdeal := hKernelIdeal)
    ∧ quiescent_KernelIdeal_pre_mask_is_binary (hKernelIdeal := hKernelIdeal) (hPre_mask_is_binary := hPre_mask_is_binary)
    ∧ quiescent_ReferenceIdeal (hReferenceIdeal := hReferenceIdeal)
    ∧ quiescent_ReferenceIdeal_pre_mask_is_binary (hReferenceIdeal := hReferenceIdeal) (hPre_mask_is_binary := hPre_mask_is_binary)
    ∧ preserves_Kernel_KernelIdeal
    ∧ algebraic_KernelIdeal_ReferenceIdeal_pre_mask_is_binary (hKernelIdeal := hKernelIdeal) (hReferenceIdeal := hReferenceIdeal) (hPre_mask_is_binary := hPre_mask_is_binary)
-- ==== Pre_mask_is_binary.lean ====
abbrev S16x96x224x224 : Shape := ⟨4, ![16, 96, 224, 224]⟩
abbrev S16x96x218x218 : Shape := ⟨4, ![16, 96, 218, 218]⟩
abbrev S_ : Shape := ⟨0, ![]⟩

class Facts : Prop where
  bcast_S_S16x96x218x218 : S_.BroadcastsInDim S16x96x218x218 (![] : Fin 0 → Fin S16x96x218x218.rank)

variable [Facts]

def fn {F : FTy → Type} [FloatOps F] (main_arg0 : FVec F S16x96x224x224 .f32) (main_arg1 : FVec F S16x96x218x218 .f32) : IVec S16x96x218x218 1 :=
  let main_cst : FVec F S_ .f32 := constant S_ .f32 0x00000000#32
  let main_v0 : FVec F S16x96x218x218 .f32 := broadcastInDim S16x96x218x218 ![] bcast_S_S16x96x218x218 main_cst
  let main_v1 : IVec S16x96x218x218 1 := cmpf .oeq main_arg1 main_v0
  let main_cst_0 : FVec F S_ .f32 := constant S_ .f32 0x3F800000#32
  let main_v2 : FVec F S16x96x218x218 .f32 := broadcastInDim S16x96x218x218 ![] bcast_S_S16x96x218x218 main_cst_0
  let main_v3 : IVec S16x96x218x218 1 := cmpf .oeq main_arg1 main_v2
  let main_v4 : IVec S16x96x218x218 1 := ori main_v1 main_v3
  main_v4
-- ==== Kernel.lean ====
abbrev S16x96x224x224 : Shape := ⟨4, ![16, 96, 224, 224]⟩
abbrev S16x96x218x218 : Shape := ⟨4, ![16, 96, 218, 218]⟩
abbrev S1536x224x224 : Shape := ⟨3, ![1536, 224, 224]⟩
abbrev S1536x218x218 : Shape := ⟨3, ![1536, 218, 218]⟩
abbrev S192x1x8 : Shape := ⟨3, ![192, 1, 8]⟩
abbrev S8x218x218 : Shape := ⟨3, ![8, 218, 218]⟩
abbrev S1x1x8 : Shape := ⟨3, ![1, 1, 8]⟩
abbrev S8x224x224 : Shape := ⟨3, ![8, 224, 224]⟩
abbrev S8x218x6 : Shape := ⟨3, ![8, 218, 6]⟩
abbrev S8x218x230 : Shape := ⟨3, ![8, 218, 230]⟩
abbrev S8x218x229 : Shape := ⟨3, ![8, 218, 229]⟩
abbrev S8x218x227 : Shape := ⟨3, ![8, 218, 227]⟩
abbrev S8x218x224 : Shape := ⟨3, ![8, 218, 224]⟩
abbrev S8x6x224 : Shape := ⟨3, ![8, 6, 224]⟩
abbrev S8x230x224 : Shape := ⟨3, ![8, 230, 224]⟩
abbrev S8x229x224 : Shape := ⟨3, ![8, 229, 224]⟩
abbrev S8x227x224 : Shape := ⟨3, ![8, 227, 224]⟩
abbrev S8 : Shape := ⟨1, ![8]⟩
abbrev S1x192x1x8 : Shape := ⟨4, ![1, 192, 1, 8]⟩
abbrev S1 : Shape := ⟨1, ![1]⟩
abbrev S1x1x1x1 : Shape := ⟨4, ![1, 1, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S16x96x224x224, .f32⟩
  | .hbm, ⟨1, _⟩ => ⟨S16x96x218x218, .f32⟩
  | .hbm, ⟨2, _⟩ => ⟨S1536x224x224, .f32⟩
  | .hbm, ⟨3, _⟩ => ⟨S1536x218x218, .f32⟩
  | .hbm, ⟨4, _⟩ => ⟨S192x1x8, .f32⟩
  | .hbm, ⟨5, _⟩ => ⟨S1536x224x224, .i8⟩
  | .hbm, ⟨6, _⟩ => ⟨S1536x224x224, .f32⟩
  | .hbm, ⟨7, _⟩ => ⟨S16x96x224x224, .f32⟩
  | .local _ .vmem, ⟨0, _⟩ => ⟨S8x218x218, .f32⟩
  | .local _ .vmem, ⟨1, _⟩ => ⟨S8x218x218, .f32⟩
  | .local _ .vmem, ⟨2, _⟩ => ⟨S1x1x8, .f32⟩
  | .local _ .vmem, ⟨3, _⟩ => ⟨S1x1x8, .f32⟩
  | .local _ .vmem, ⟨4, _⟩ => ⟨S8x224x224, .i8⟩
  | .local _ .vmem, ⟨5, _⟩ => ⟨S8x224x224, .i8⟩
  | .local _ .vmem, ⟨6, _⟩ => ⟨S192x1x8, .f32⟩
  | .local _ .vmem, ⟨7, _⟩ => ⟨S8x224x224, .f32⟩
  | .local _ .vmem, ⟨8, _⟩ => ⟨S8x224x224, .f32⟩
  | .local _ .vmem, ⟨9, _⟩ => ⟨S8x224x224, .i8⟩
  | .local _ .vmem, ⟨10, _⟩ => ⟨S8x224x224, .i8⟩
  | .local _ .vmem, ⟨11, _⟩ => ⟨S8x224x224, .f32⟩
  | .local _ .vmem, ⟨12, _⟩ => ⟨S8x224x224, .f32⟩
  | _, _ => ⟨S16x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x218x218 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x224x224 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![192], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S192x1x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x224x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x224x224 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x224x224 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S16x96x224x224 : Shape := ⟨4, ![16, 96, 224, 224]⟩
abbrev S16x96x218x218 : Shape := ⟨4, ![16, 96, 218, 218]⟩
abbrev S_ : Shape := ⟨0, ![]⟩
abbrev S16x96x230x230 : Shape := ⟨4, ![16, 96, 230, 230]⟩

abbrev nBuf : Space → Nat
  | .hbm => 21
  | .vmem => 0
  | .smem => 0
  | _ => 0

abbrev bufTy : (tb : Table) → Fin (tcTables nBuf tb) → BufTy
  | .hbm, ⟨0, _⟩ => ⟨S16x96x224x224, .f32⟩
  | .hbm, ⟨1, _⟩ => ⟨S16x96x218x218, .f32⟩
  | .hbm, ⟨2, _⟩ => ⟨S_, .i32⟩
  | .hbm, ⟨3, _⟩ => ⟨S_, .f32⟩
  | .hbm, ⟨4, _⟩ => ⟨S16x96x230x230, .f32⟩
  | .hbm, ⟨5, _⟩ => ⟨S_, .f32⟩
  | .hbm, ⟨6, _⟩ => ⟨S_, .f32⟩
  | .hbm, ⟨7, _⟩ => ⟨S16x96x224x224, .f32⟩
  | .hbm, ⟨8, _⟩ => ⟨S_, .f32⟩
  | .hbm, ⟨9, _⟩ => ⟨S16x96x224x224, .f32⟩
  | .hbm, ⟨10, _⟩ => ⟨S16x96x224x224, .f32⟩
  | .hbm, ⟨11, _⟩ => ⟨S_, .f32⟩
  | .hbm, ⟨12, _⟩ => ⟨S16x96x224x224, .f32⟩
  | .hbm, ⟨13, _⟩ => ⟨S16x96x224x224, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x96x224x224, .f32⟩
  | .hbm, ⟨19, _⟩ => ⟨S16x96x224x224, .f32⟩
  | .hbm, ⟨20, _⟩ => ⟨S16x96x224x224, .f32⟩
  | _, _ => ⟨S16x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.Window.lean ====
/- The zero-padded seven-by-seven window maximum of an image, on natural-number coordinates, and the facts about it the
   two programs need: it can be taken rows first, and on an image of zeros and ones it is zero or one. -/
module

public import Idealize.ShloMosaic.PureOps.Ideal
public import Mathlib.Data.Finset.Lattice.Fold

@[expose] public section

noncomputable section

namespace Cert.Window

/-- A line of 218 values with six zeros put before it and zeros after it. -/
def padLine (g : ℕ → EReal) (k : ℕ) : EReal := if k < 6 then 0 else if k - 6 < 218 then g (k - 6) else 0

/-- The maximum over the seven-by-seven window at `(p, q)` of the zero-padded image `f`. -/
def dil (f : ℕ → ℕ → EReal) (p q : ℕ) : EReal :=
  (Finset.range 7).sup fun e => (Finset.range 7).sup fun d => padLine (fun i => padLine (f i) (q + d)) (p + e)

/-- Maxima over two, then four, then seven neighbours: the maximum over seven consecutive places. -/
theorem seven (f : ℕ → EReal) (k : ℕ) :
    max (max (max (f k) (f (1 + k))) (max (f (2 + k)) (f (1 + (2 + k)))))
      (max (max (f (3 + k)) (f (1 + (3 + k)))) (max (f (2 + (3 + k))) (f (1 + (2 + (3 + k))))))
      = (Finset.range 7).sup fun d => f (k + d) := by
  have up (n d : ℕ) (h : n = k + d) (hd : d < 7) : f n ≤ (Finset.range 7).sup fun d => f (k + d) := by
    subst h; exact Finset.le_sup (f := fun d => f (k + d)) (Finset.mem_range.2 hd)
  refine le_antisymm ?_ (Finset.sup_le fun d hd => ?_)
  · refine max_le (max_le (max_le ?_ ?_) (max_le ?_ ?_)) (max_le (max_le ?_ ?_) (max_le ?_ ?_))
    · exact up _ 0 rfl (by omega)
    · exact up _ 1 (by omega) (by omega)
    · exact up _ 2 (by omega) (by omega)
    · exact up _ 3 (by omega) (by omega)
    · exact up _ 3 (by omega) (by omega)
    · exact up _ 4 (by omega) (by omega)
    · exact up _ 5 (by omega) (by omega)
    · exact up _ 6 (by omega) (by omega)
  · have hd := Finset.mem_range.1 hd
    have e1 : 1 + k = k + 1 := by omega
    have e2 : 2 + k = k + 2 := by omega
    have e3 : 3 + k = k + 3 := by omega
    have e4 : 1 + (3 + k) = k + 4 := by omega
    have e5 : 2 + (3 + k) = k + 5 := by omega
    have e6 : 1 + (2 + (3 + k)) = k + 6 := by omega
    rw [e6, e4, e5, e1, e2, e3]
    interval_cases d <;> simp only [le_max_iff, le_refl, true_or, or_true, Nat.add_zero]

/-- A padded line of window maxima is the window maximum of the padded lines: a row of the padding gives only zeros. -/
theorem padLine_sup (g : ℕ → ℕ → EReal) (k : ℕ) :
    padLine (fun i => (Finset.range 7).sup fun d => g i d) k = (Finset.range 7).sup fun d => padLine (fun i => g i d) k := by
  have z : ((Finset.range 7).sup fun _ => (0 : EReal)) = 0 := Finset.sup_const ⟨0, by decide⟩ 0
  unfold padLine
  split_ifs
  · exact z.symm
  · rfl
  · exact z.symm

/-- The window maximum taken rows first. -/
theorem dil_rows (f : ℕ → ℕ → EReal) (p q : ℕ) :
    ((Finset.range 7).sup fun e => padLine (fun i => (Finset.range 7).sup fun d => padLine (f i) (q + d)) (p + e))
      = dil f p q := by
  unfold dil
  exact Finset.sup_congr rfl fun e _ => padLine_sup (fun i d => padLine (f i) (q + d)) (p + e)

/-- On an image of zeros and ones a padded value is zero or one. -/
theorem padLine_bin (g : ℕ → EReal) (h : ∀ k, g k = 0 ∨ g k = 1) (k : ℕ) : padLine g k = 0 ∨ padLine g k = 1 := by
  unfold padLine
  split_ifs
  · exact .inl rfl
  · exact h _
  · exact .inl rfl

/-- On an image of zeros and ones the window maximum is zero or one. -/
theorem dil_bin (f : ℕ → ℕ → EReal) (h : ∀ i j, f i j = 0 ∨ f i j = 1) (p q : ℕ) : dil f p q = 0 ∨ dil f p q = 1 := by
  have ne : (Finset.range 7).Nonempty := ⟨0, by decide⟩
  obtain ⟨e, -, he⟩ := Finset.exists_mem_eq_sup _ ne
    fun e => (Finset.range 7).sup fun d => padLine (fun i => padLine (f i) (q + d)) (p + e)
  obtain ⟨d, -, hd⟩ := Finset.exists_mem_eq_sup _ ne fun d => padLine (fun i => padLine (f i) (q + d)) (p + e)
  unfold dil
  rw [he, hd]
  exact padLine_bin _ (fun i => padLine_bin _ (h i) _) _

end Cert.Window

end
-- ==== Proof.Block.lean ====
/- What one grid point of each of the two kernels computes, read at an index. -/
module

public import proofs.«01_k».proof.Proof.Gen.KernelIdeal.Skeleton
public import proofs.«01_k».proof.Proof.Window
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Window

/-- The horizontal half of the dilation: each row padded with six zeros on both sides, then the running maximum over
    seven neighbours built from maxima over two, four and seven. -/
def rows (x : FVec Ideal S8x218x218 .f32) : FVec Ideal S8x218x224 .f32 :=
  let z : FVec Ideal S8x218x6 .f32 := broadcast S8x218x6 (Scalar.ofBits (F := Ideal) .f32 0x00000000#32)
  let a : FVec Ideal S8x218x230 .f32 := concatenate S8x218x230 2 [⟨S8x218x6, z⟩, ⟨S8x218x218, shapeCast S8x218x218 x shapeCasts_S8x218x218_S8x218x218⟩, ⟨S8x218x6, z⟩]
    concatenates_S8x218x6_S8x218x218_S8x218x6_S8x218x230_d2
  let b : FVec Ideal S8x218x229 .f32 := maximumf (extractStridedSlice S8x218x229 ![0, 0, 0] a slices_S8x218x230_o0_0_0_S8x218x229)
    (extractStridedSlice S8x218x229 ![0, 0, 1] a slices_S8x218x230_o0_0_1_S8x218x229)
  let d : FVec Ideal S8x218x227 .f32 := maximumf (extractStridedSlice S8x218x227 ![0, 0, 0] b slices_S8x218x229_o0_0_0_S8x218x227)
    (extractStridedSlice S8x218x227 ![0, 0, 2] b slices_S8x218x229_o0_0_2_S8x218x227)
  maximumf (extractStridedSlice S8x218x224 ![0, 0, 0] d slices_S8x218x227_o0_0_0_S8x218x224)
    (extractStridedSlice S8x218x224 ![0, 0, 3] d slices_S8x218x227_o0_0_3_S8x218x224)

/-- The vertical half: the same along the columns. -/
def cols (x : FVec Ideal S8x218x224 .f32) : FVec Ideal S8x224x224 .f32 :=
  let z : FVec Ideal S8x6x224 .f32 := broadcast S8x6x224 (Scalar.ofBits (F := Ideal) .f32 0x00000000#32)
  let a : FVec Ideal S8x230x224 .f32 := concatenate S8x230x224 1 [⟨S8x6x224, z⟩, ⟨S8x218x224, x⟩, ⟨S8x6x224, z⟩]
    concatenates_S8x6x224_S8x218x224_S8x6x224_S8x230x224_d1
  let b : FVec Ideal S8x229x224 .f32 := maximumf (extractStridedSlice S8x229x224 ![0, 0, 0] a slices_S8x230x224_o0_0_0_S8x229x224)
    (extractStridedSlice S8x229x224 ![0, 1, 0] a slices_S8x230x224_o0_1_0_S8x229x224)
  let d : FVec Ideal S8x227x224 .f32 := maximumf (extractStridedSlice S8x227x224 ![0, 0, 0] b slices_S8x229x224_o0_0_0_S8x227x224)
    (extractStridedSlice S8x227x224 ![0, 2, 0] b slices_S8x229x224_o0_2_0_S8x227x224)
  maximumf (extractStridedSlice S8x224x224 ![0, 0, 0] d slices_S8x227x224_o0_0_0_S8x224x224)
    (extractStridedSlice S8x224x224 ![0, 3, 0] d slices_S8x227x224_o0_3_0_S8x224x224)

/-- The printed dilation of a block is the two halves, one after the other. -/
theorem k0_pay1_eq (x : FVec Ideal S8x218x218 .f32) : k0_pay1 (F := Ideal) x = cols (rows x) := rfl

/-- The horizontal half at an index: the maximum of seven neighbours in the padded row. -/
theorem rows_apply (x : FVec Ideal S8x218x218 .f32) (b : Fin 8) (i : Fin 218) (q : Fin 224) (g : ℕ → EReal)
    (hg : ∀ j : Fin 218, x (ix3 b i j) = g j) :
    rows x (ix3 b i q) = (Finset.range 7).sup fun d => padLine g (q + d) := by
  have e (k : ℕ) : padLine g k = if h : k < 6 then 0 else if h : k - 6 < 218 then x (ix3 b i ⟨k - 6, h⟩) else 0 := by
    unfold padLine
    split_ifs with h1 h2
    · rfl
    · exact (hg ⟨k - 6, h2⟩).symm
    · rfl
  pointwise [rows]
  simp only [e]
  exact seven (fun k => if h : k < 6 then 0 else if h : k - 6 < 218 then x (ix3 b i ⟨k - 6, h⟩) else 0) q

/-- The vertical half at an index: the maximum of seven neighbours in the padded column. -/
theorem cols_apply (x : FVec Ideal S8x218x224 .f32) (b : Fin 8) (p q : Fin 224) (g : ℕ → EReal)
    (hg : ∀ i : Fin 218, x (ix3 b i q) = g i) :
    cols x (ix3 b p q) = (Finset.range 7).sup fun d => padLine g (p + d) := by
  have e (k : ℕ) : padLine g k = if h : k < 6 then 0 else if h : k - 6 < 218 then x (ix3 b ⟨k - 6, h⟩ q) else 0 := by
    unfold padLine
    split_ifs with h1 h2
    · rfl
    · exact (hg ⟨k - 6, h2⟩).symm
    · rfl
  pointwise [cols]
  simp only [e]
  exact seven (fun k => if h : k < 6 then 0 else if h : k - 6 < 218 then x (ix3 b ⟨k - 6, h⟩ q) else 0) p

/-- The dilation of a block at an index: the window maximum of the image in that slot of the block. -/
theorem pay1_apply (x : FVec Ideal S8x218x218 .f32) (b : Fin 8) (p q : Fin 224) (f : ℕ → ℕ → EReal)
    (hf : ∀ i j : Fin 218, x (ix3 b i j) = f i j) : k0_pay1 (F := Ideal) x (ix3 b p q) = dil f p q := by
  rw [k0_pay1_eq, cols_apply (rows x) b p q (fun i => (Finset.range 7).sup fun d => padLine (f i) (q + d))
    (fun i => rows_apply x b i q (f i) (hf i)), dil_rows]

/-- The first kernel's first output at an index: the image's dilation summed. -/
theorem pay2_apply (x : FVec Ideal S8x218x218 .f32) (b : Fin 8) (f : ℕ → ℕ → EReal)
    (hf : ∀ i j : Fin 218, x (ix3 b i j) = f i j) :
    k0_pay2 (F := Ideal) x (ix3 0 0 b) = ∑ p : Fin 224, ∑ q : Fin 224, dil f p q := by
  pointwise [k0_pay2]
  exact Finset.sum_congr rfl fun p _ => Finset.sum_congr rfl fun q _ => pay1_apply x b p q f hf

/-- The first kernel's second output at an index: the dilation as a byte. -/
theorem pay3_apply (x : FVec Ideal S8x218x218 .f32) (b : Fin 8) (p q : Fin 224) (f : ℕ → ℕ → EReal)
    (hf : ∀ i j : Fin 218, x (ix3 b i j) = f i j) :
    k0_pay3 (F := Ideal) x (ix3 b p q) = FloatOps.fptosi (F := Ideal) (φ := .f32) 8 (dil f p q) := by
  rw [← pay1_apply x b p q f hf]
  rfl

/-- The sum over every axis of a block with one leading axis of size one is the plain total. -/
theorem total_apply (v : FVec Ideal S192x1x8 .f32) :
    Ideal.reduceAdd reduces_S1x192x1x8_S1 (shapeCast S1x192x1x8 v shapeCasts_S192x1x8_S1x192x1x8) (ix1 0)
      = ∑ g : Fin 192, ∑ b : Fin 8, v (ix3 g 0 b) := by
  unfold Ideal.reduceAdd
  have one (a : S1.Idx) : a = ix1 0 := by
    rw [eq_ix1 a]
    exact congrArg ix1 (Subsingleton.elim (α := Fin 1) _ _)
  rw [Finset.filter_true_of_mem fun i _ => one _, sum_idx4]
  pointwise
  simp only [Fin.sum_univ_one]

/-- The second kernel's output at an index. -/
theorem pay_out_apply (v0 : FVec Ideal S192x1x8 .f32) (v8 : FVec Ideal S8x224x224 .f32) (v10 : IVec S8x224x224 8)
    (b : Fin 8) (p q : Fin 224) :
    k1_pay1 (F := Ideal) v0 v8 v10 (ix3 b p q) = v8 (ix3 b p q) * ((1 - FloatOps.sitofp (F := Ideal) .f32 (v10 (ix3 b p q)))
      * Ideal.div (Ideal.ofBits .f32 0x4C930000#32) (Ideal.ofBits .f32 0x4C930000#32 - ∑ g : Fin 192, ∑ b : Fin 8, v0 (ix3 g 0 b))) := by
  pointwise [k1_pay1]
  rw [← total_apply]

end Cert.KernelIdeal.Block
end
-- ==== Proof.Arrays.lean ====
/- What the arrays hold after each of the two kernels has run over its whole grid, as functions of what they held before. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen
open Cert.KernelIdeal.Block
open Cert.Window

variable (V : (c : Dev nD) → (b : Ref sig .tc) → Buf (Elt Ideal) ((c : Thread nD τ).loc b))

/-- Image number `n` of a stack of 1536 masks, on natural-number coordinates. -/
def image (x : FVec Ideal S1536x218x218 .f32) (n i j : ℕ) : EReal :=
  x (ix3 (Fin.ofNat 1536 n) (Fin.ofNat 218 i) (Fin.ofNat 218 j))

/-- The dilation summed, per image, in the layout of the first kernel's first output. -/
def counts (x : FVec Ideal S1536x218x218 .f32) : FVec Ideal S192x1x8 .f32 := fun j =>
  ∑ p : Fin 224, ∑ q : Fin 224, dil (image x (8 * (show Fin 192 from j 0).val + (show Fin 8 from j 2).val)) p q

/-- The dilation as bytes. -/
def bytes (x : FVec Ideal S1536x218x218 .f32) : IVec S1536x224x224 8 := fun j =>
  FloatOps.fptosi (F := Ideal) (φ := .f32) 8
    (dil (image x (show Fin 1536 from j 0).val) (show Fin 224 from j 1).val (show Fin 224 from j 2).val)

/-- The second kernel's result from its three operands. -/
def scaled (n : FVec Ideal S192x1x8 .f32) (x : FVec Ideal S1536x224x224 .f32) (d : IVec S1536x224x224 8) :
    FVec Ideal S1536x224x224 .f32 := fun j =>
  x j * ((1 - FloatOps.sitofp (F := Ideal) .f32 (d j))
    * Ideal.div (Ideal.ofBits .f32 0x4C930000#32) (Ideal.ofBits .f32 0x4C930000#32 - ∑ g : Fin 192, ∑ b : Fin 8, n (ix3 g 0 b)))

/-- The first kernel's block indices: every window moves with the grid point along its first axis. -/
theorem idx0 : ∀ t : Fin cfg0.N, win0_0.index t = ![t.val, 0, 0] ∧ win0_1.index t = ![t.val, 0, 0]
    ∧ win0_2.index t = ![t.val, 0, 0] ∧ t.val < 192 :=
  (by decide +kernel : ∀ t : Fin grid0.N, _)

/-- The second kernel's: the counts stay whole, the others move with the grid point. -/
theorem idx1 : ∀ t : Fin cfg1.N, win1_0.index t = ![0, 0, 0] ∧ win1_1.index t = ![t.val, 0, 0]
    ∧ win1_2.index t = ![t.val, 0, 0] ∧ win1_3.index t = ![t.val, 0, 0] ∧ t.val < 192 :=
  (by decide +kernel : ∀ t : Fin grid1.N, _)

/-- The mask block of point `t` holds the images from `8 t` on. -/
theorem mask_block (c : Dev nD) (t : Fin cfg0.N) (b : Fin 8) (i j : Fin 218) :
    (show FVec Ideal S8x218x218 .f32 from iblk0 V c 0 t) (ix3 b i j) = image (V c main_v1) (8 * t.val + b.val) i j := by
  unfold image
  blk_ext [iblk0, idx0 t]
  · simp only [Fin.val_ofNat]; omega
  · simp only [Fin.val_ofNat]; omega
  · simp only [Fin.val_ofNat]; omega

/-- After the first kernel its first output holds the counts. -/
theorem counts_final (c : Dev nD) : (dat0 V c).arrAt 1 cfg0.N = counts (V c main_v1) := by
  refine (dat0 V c).arrAt_eq_of_covers 1 _ (by decide +kernel) fun t _ y => ?_
  blk_simp
  rw [after0_1]
  frame_out
  have ht : t.val < 192 := (idx0 t).2.2.2
  have ey : (show S1x1x8.Idx from y) = ix3 0 0 (show Fin 8 from y 2) := by blk_ext [idx0 t]
  have ez : (((View.whole main_v2_0).slice (win0_1.rect t)).emb y : S192x1x8.Idx)
      = ix3 ⟨t.val, ht⟩ 0 (show Fin 8 from y 2) := by blk_ext [idx0 t]
  refine (congrArg (k0_pay2 (F := Ideal) (iblk0 V c 0 t)) ey).trans (Eq.trans ?_ (congrArg (counts (V c main_v1)) ez).symm)
  exact pay2_apply (iblk0 V c 0 t) (show Fin 8 from y 2) _ (mask_block V c t _)

/-- After the first kernel its second output holds the dilation's bytes. -/
theorem bytes_final (c : Dev nD) : (dat0 V c).arrAt 2 cfg0.N = bytes (V c main_v1) := by
  refine (dat0 V c).arrAt_eq_of_covers 2 _ (by decide +kernel) fun t _ y => ?_
  blk_simp
  rw [after0_2]
  frame_out
  have ht : t.val < 192 := (idx0 t).2.2.2
  have hy : (show Fin 8 from y 0).val < 8 := (show Fin 8 from y 0).isLt
  have ey : (show S8x224x224.Idx from y) = ix3 (show Fin 8 from y 0) (show Fin 224 from y 1) (show Fin 224 from y 2) := by
    blk_ext [idx0 t]
  have ez : (((View.whole main_v2_1).slice (win0_2.rect t)).emb y : S1536x224x224.Idx)
      = ix3 ⟨8 * t.val + (show Fin 8 from y 0).val, by omega⟩ (show Fin 224 from y 1) (show Fin 224 from y 2) := by
    blk_ext [idx0 t]
  refine (congrArg (k0_pay3 (F := Ideal) (iblk0 V c 0 t)) ey).trans (Eq.trans ?_ (congrArg (bytes (V c main_v1)) ez).symm)
  exact pay3_apply (iblk0 V c 0 t) _ _ _ _ (mask_block V c t _)

/-- The second kernel's first operand is staged whole. -/
theorem counts_block (c : Dev nD) (t : Fin cfg1.N) : (show FVec Ideal S192x1x8 .f32 from iblk1 V c 0 t) = V c main_v2_0 := by
  blk_ext! [iblk1, idx1 t]

/-- After the second kernel its output holds the scaled array. -/
theorem scaled_final (c : Dev nD) : (dat1 V c).arrAt 3 cfg1.N = scaled (V c main_v2_0) (V c main_v0) (V c main_v2_1) := by
  refine (dat1 V c).arrAt_eq_of_covers 3 _ (by decide +kernel) fun t _ y => ?_
  blk_simp
  rw [after1_3]
  frame_out
  have ht : t.val < 192 := (idx1 t).2.2.2.2
  have hy : (show Fin 8 from y 0).val < 8 := (show Fin 8 from y 0).isLt
  have ey : (show S8x224x224.Idx from y) = ix3 (show Fin 8 from y 0) (show Fin 224 from y 1) (show Fin 224 from y 2) := by
    blk_ext [idx1 t]
  have ex : (show FVec Ideal S8x224x224 .f32 from iblk1 V c 1 t) y
      = V c main_v0 (((View.whole main_v3).slice (win1_3.rect t)).emb y) := by blk_ext [iblk1, idx1 t]
  have ed : (show IVec S8x224x224 8 from iblk1 V c 2 t) y
      = V c main_v2_1 (((View.whole main_v3).slice (win1_3.rect t)).emb y) := by blk_ext [iblk1, idx1 t]
  have key := pay_out_apply (iblk1 V c 0 t) (iblk1 V c 1 t) (iblk1 V c 2 t) (show Fin 8 from y 0) (show Fin 224 from y 1)
    (show Fin 224 from y 2)
  rw [← ey] at key
  refine key.trans ?_
  unfold scaled
  rw [← counts_block V c t]
  exact congrArg₂ (fun (u : EReal) (w : BitVec 8) => u * ((1 - FloatOps.sitofp (F := Ideal) .f32 w) * _)) ex ed

end Cert.KernelIdeal.Arrays
end
-- ==== Proof.KernelRun.lean ====
/- The kernel program's whole run: its result array and its arguments in every final state, and the result as a function of
   the arguments. -/
module

public import proofs.«01_k».proof.Proof.Arrays
public import Idealize.ShloMosaic.Lib.Claim

@[expose] public section

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.Arrays

variable (m : (ℓ : Loc nD τ sig) → Buf (Elt Ideal) ℓ) (ρ : Dev nD → PrngReg)

set_option backward.isDefEq.respectTransparency.types false in
/-- Every final state has the result array at the last boundary's contents and the arguments as launched. The launch is
    set up as for the frame; only what is read off the final state differs. -/
theorem run_result : θ_run defs (onTc (τ := τ) (main (F := Ideal))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        · iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v4 (by decide)),
       (h c _ (mem_uc main_arg0 (by decide))).trans (W4_main_arg0 m ρ c),
       (h c _ (mem_uc main_arg1 (by decide))).trans (W4_main_arg1 m ρ c)⟩)

/-- The mask argument as a stack of 1536 images. -/
abbrev stack (x1 : FVec Ideal S16x96x218x218 .f32) : FVec Ideal S1536x218x218 .f32 :=
  shapeCast S1536x218x218 x1 shapeCasts_S16x96x218x218_S1536x218x218

/-- The kernel program's result as a function of its two arguments. -/
def result (x0 : FVec Ideal S16x96x224x224 .f32) (x1 : FVec Ideal S16x96x218x218 .f32) : FVec Ideal S16x96x224x224 .f32 :=
  shapeCast S16x96x224x224
    (scaled (counts (stack x1)) (shapeCast S1536x224x224 x0 shapeCasts_S16x96x224x224_S1536x224x224) (bytes (stack x1)))
    shapeCasts_S1536x224x224_S16x96x224x224

/-- The first kernel is entered with the mask reshaped to a stack, -/
theorem entry_mask (c : Dev nD) : V1 m ρ c main_v1 = stack (m ((c : Thread nD τ).loc main_arg1)) := by
  show StableHlo.after hostOps0 (W0 m ρ c) (Proc.devRef .tc main_v1) = _
  rfl

/-- and with the other argument reshaped likewise, which it leaves alone. -/
theorem entry_x (c : Dev nD) : V2 m ρ c main_v0
    = shapeCast S1536x224x224 (m ((c : Thread nD τ).loc main_arg0)) shapeCasts_S16x96x224x224_S1536x224x224 := by
  refine (W2_of m ρ c main_v0 (by decide +kernel)).trans ?_
  rfl

/-- The last boundary's contents of the result array. -/
theorem final_result (c : Dev nD) : W4 m ρ c (Proc.devRef .tc main_v4)
    = result (m ((c : Thread nD τ).loc main_arg0)) (m ((c : Thread nD τ).loc main_arg1)) := by
  have h3 : W3 m ρ c (Proc.devRef .tc main_v3) = scaled (V2 m ρ c main_v2_0) (V2 m ρ c main_v0) (V2 m ρ c main_v2_1) :=
    (W3_arr m ρ c 3).trans (scaled_final (V2 m ρ) c)
  have hn : V2 m ρ c main_v2_0 = counts (V1 m ρ c main_v1) := (W2_arr m ρ c 1).trans (counts_final (V1 m ρ) c)
  have hd : V2 m ρ c main_v2_1 = bytes (V1 m ρ c main_v1) := (W2_arr m ρ c 2).trans (bytes_final (V1 m ρ) c)
  rw [hn, hd, entry_x, entry_mask] at h3
  refine Eq.trans (b := shapeCast S16x96x224x224 (W3 m ρ c (Proc.devRef .tc main_v3)) shapeCasts_S1536x224x224_S16x96x224x224) ?_ ?_
  · rfl
  · exact congrArg (fun v => shapeCast S16x96x224x224 v shapeCasts_S1536x224x224_S16x96x224x224) h3

end Cert.KernelIdeal.KernelRun
end
-- ==== Proof.RefValue.lean ====
/- What the reference computes, read at an index: its padded mask, its window maximum, its result. -/
module

public import proofs.«01_k».proof.Proof.Gen.ReferenceIdeal.Read
public import proofs.«01_k».proof.Proof.Window
public import Idealize.ShloMosaic.Lib.Pointwise

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Window

section Fold
variable {β : Type} (g : β → EReal)

/-- A running maximum stays below any bound of its entries and its start. -/
theorem foldl_max_le (l : List β) (v B : EReal) (hv : v ≤ B) (h : ∀ n ∈ l, g n ≤ B) :
    l.foldl (fun r n => max r (g n)) v ≤ B := by
  induction l generalizing v with
  | nil => exact hv
  | cons a l ih =>
    exact ih _ (max_le hv (h a List.mem_cons_self)) fun n hn => h n (List.mem_cons_of_mem _ hn)

/-- A running maximum is at least its start. -/
theorem le_foldl_max_start (l : List β) (v : EReal) : v ≤ l.foldl (fun r n => max r (g n)) v := by
  induction l generalizing v with
  | nil => exact le_rfl
  | cons a l ih => exact (le_max_left _ _).trans (ih _)

/-- A running maximum is at least each of its entries. -/
theorem le_foldl_max (l : List β) (v : EReal) (n : β) (hn : n ∈ l) : g n ≤ l.foldl (fun r n => max r (g n)) v := by
  induction l generalizing v with
  | nil => exact absurd hn List.not_mem_nil
  | cons a l ih =>
    rcases List.mem_cons.1 hn with rfl | h
    · exact (le_max_right _ _).trans (le_foldl_max_start g l _)
    · exact ih _ h

end Fold

theorem bot_bits : (Ideal.ofBits .f32 0xFF800000#32 : EReal) = ⊥ := by
  simp [Ideal.ofBits, Ideal.ieee]

/-- The padded mask at an index: the mask's image padded along the columns and along the rows. -/
theorem pad_apply (x1 : FVec Ideal S16x96x218x218 .f32) (b : Fin 16) (c : Fin 96) (r s : Fin 230) (f : ℕ → ℕ → EReal)
    (hf : ∀ i j : Fin 218, x1 (ix4 b c i j) = f i j) :
    val_main_v0 (F := Ideal) x1 (ix4 b c r s) = padLine (fun i => padLine (f i) s) r := by
  have zero : FloatOps.sitofp (F := Ideal) .f32 0#32 = 0 := by
    show (((0#32 : BitVec 32).toInt : ℝ) : EReal) = 0; simp
  pointwise [val_main_v0, val_main_call0_v0, val_main_c]
  rw [zero]
  unfold padLine
  split_ifs with h h1 h2 h3 h4 <;> first | rfl | omega | skip
  exact hf ⟨r - 6, h.1.2⟩ ⟨s - 6, h.2.2⟩

/-- The window's positions. -/
abbrev Win : Shape := ⟨4, ![1, 1, 7, 7]⟩

/-- The operand's place under window position `w` of result place `(b, c, p, q)`. -/
def place (b : Fin 16) (c : Fin 96) (p q : Fin 224) (w : Win.Idx) : S16x96x230x230.Idx :=
  ix4 b c ⟨p + (show Fin 7 from w 2).val, by have := (show Fin 7 from w 2).isLt; omega⟩
    ⟨q + (show Fin 7 from w 3).val, by have := (show Fin 7 from w 3).isLt; omega⟩

/-- The window operation at an index is the running maximum, from minus infinity, over the window's positions: no window
    leaves the operand. -/
theorem window_fold (X : FVec Ideal S16x96x230x230 .f32) (b : Fin 16) (c : Fin 96) (p q : Fin 224) :
    Host.reduceWindow (FloatOps.maximumf (F := Ideal) (φ := .f32)) ![1, 1, 7, 7] ![1, 1, 1, 1] ![0, 0, 0, 0] ![0, 0, 0, 0] X
      (val_main_v1 (F := Ideal)) reduceWindows_S16x96x230x230_S16x96x224x224_w1s1p0_0_w1s1p0_0_w7s1p0_0_w7s1p0_0 h_S_ (ix4 b c p q)
      = (List.finRange Win.numel).foldl (fun r n => max r (X (place b c p q (Win.rowMajor.symm n)))) ⊥ := by
  have start : val_main_v1 (F := Ideal) (Shape.Idx.first h_S_) = ⊥ := bot_bits
  unfold Host.reduceWindow
  simp only [start, Ideal.maximumf_def]
  refine congrArg (fun g => List.foldl g ⊥ (List.finRange Win.numel)) (funext fun r => funext fun n => congrArg (max r) ?_)
  have h0 : (Win.rowMajor.symm n 0).val < 1 := (Win.rowMajor.symm n 0).isLt
  have h1 : (Win.rowMajor.symm n 1).val < 1 := (Win.rowMajor.symm n 1).isLt
  have h2 : (Win.rowMajor.symm n 2).val < 7 := (Win.rowMajor.symm n 2).isLt
  have h3 : (Win.rowMajor.symm n 3).val < 7 := (Win.rowMajor.symm n 3).isLt
  have hin : ∀ a : Fin 4, (![0, 0, 0, 0] : Fin 4 → ℕ) a ≤ (ix4 b c p q a).val * (![1, 1, 1, 1] : Fin 4 → ℕ) a + (Win.rowMajor.symm n a).val
      ∧ (ix4 b c p q a).val * (![1, 1, 1, 1] : Fin 4 → ℕ) a + (Win.rowMajor.symm n a).val - (![0, 0, 0, 0] : Fin 4 → ℕ) a < (![16, 96, 230, 230] : Fin 4 → ℕ) a := by
    intro a
    match a with
    | ⟨0, _⟩ => show 0 ≤ b.val * 1 + (Win.rowMajor.symm n 0).val ∧ b.val * 1 + (Win.rowMajor.symm n 0).val - 0 < 16; omega
    | ⟨1, _⟩ => show 0 ≤ c.val * 1 + (Win.rowMajor.symm n 1).val ∧ c.val * 1 + (Win.rowMajor.symm n 1).val - 0 < 96; omega
    | ⟨2, _⟩ => show 0 ≤ p.val * 1 + (Win.rowMajor.symm n 2).val ∧ p.val * 1 + (Win.rowMajor.symm n 2).val - 0 < 230; omega
    | ⟨3, _⟩ => show 0 ≤ q.val * 1 + (Win.rowMajor.symm n 3).val ∧ q.val * 1 + (Win.rowMajor.symm n 3).val - 0 < 230; omega
  refine (dif_pos hin).trans (congrArg X (funext fun a => Fin.ext ?_))
  match a with
  | ⟨0, _⟩ => show b.val * 1 + (Win.rowMajor.symm n 0).val - 0 = b.val; omega
  | ⟨1, _⟩ => show c.val * 1 + (Win.rowMajor.symm n 1).val - 0 = c.val; omega
  | ⟨2, _⟩ => show p.val * 1 + (Win.rowMajor.symm n 2).val - 0 = p.val + (Win.rowMajor.symm n 2).val; omega
  | ⟨3, _⟩ => show q.val * 1 + (Win.rowMajor.symm n 3).val - 0 = q.val + (Win.rowMajor.symm n 3).val; omega

/-- The window maximum at an index. -/
theorem window_apply (x1 : FVec Ideal S16x96x218x218 .f32) (b : Fin 16) (c : Fin 96) (p q : Fin 224) (f : ℕ → ℕ → EReal)
    (hf : ∀ i j : Fin 218, x1 (ix4 b c i j) = f i j) :
    val_main_v2 (F := Ideal) x1 (ix4 b c p q) = dil f p q := by
  have hp (w : Win.Idx) : val_main_v0 (F := Ideal) x1 (place b c p q w)
      = padLine (fun i => padLine (f i) (q + (show Fin 7 from w 3).val)) (p + (show Fin 7 from w 2).val) :=
    pad_apply x1 b c _ _ f hf
  refine (window_fold (val_main_v0 (F := Ideal) x1) b c p q).trans
    (le_antisymm (foldl_max_le _ _ _ _ bot_le fun n _ => ?_) ?_)
  · rw [hp]
    generalize Win.rowMajor.symm n = w
    unfold dil
    refine le_trans ?_ (Finset.le_sup (Finset.mem_range.2 (show Fin 7 from w 2).isLt))
    exact Finset.le_sup (f := fun d => padLine (fun i => padLine (f i) (q + d)) (p + (show Fin 7 from w 2).val))
      (Finset.mem_range.2 (show Fin 7 from w 3).isLt)
  · unfold dil
    refine Finset.sup_le fun e he => Finset.sup_le fun d hd => ?_
    have he := Finset.mem_range.1 he
    have hd := Finset.mem_range.1 hd
    have key := le_foldl_max (fun n => val_main_v0 (F := Ideal) x1 (place b c p q (Win.rowMajor.symm n)))
      (List.finRange Win.numel) ⊥ (Win.rowMajor (ix4 0 0 ⟨e, he⟩ ⟨d, hd⟩)) (List.mem_finRange _)
    rw [hp, Equiv.symm_apply_apply] at key
    exact key

/-- One minus the dilation, at an index. -/
theorem block_mask_apply (x1 : FVec Ideal S16x96x218x218 .f32) (b : Fin 16) (c : Fin 96) (p q : Fin 224) (f : ℕ → ℕ → EReal)
    (hf : ∀ i j : Fin 218, x1 (ix4 b c i j) = f i j) :
    val_main_v6 (F := Ideal) x1 (ix4 b c p q) = 1 - max (dil f p q) 0 := by
  rw [← window_apply x1 b c p q f hf]
  pointwise [val_main_v6, val_main_v5, val_main_v4, val_main_v3, val_main_cst_0, val_main_cst_1]

/-- The result at an index. -/
theorem result_apply (x0 : FVec Ideal S16x96x224x224 .f32) (x1 : FVec Ideal S16x96x218x218 .f32) (j : S16x96x224x224.Idx) :
    val_main_v11 (F := Ideal) x0 x1 j = x0 j * val_main_v6 (F := Ideal) x1 j
      * Ideal.div (Ideal.ofBits .f32 0x4C930000#32) (∑ k : S16x96x224x224.Idx, val_main_v6 (F := Ideal) x1 k) := by
  pointwise [val_main_v11, val_main_v10, val_main_v9, val_main_v8, val_main_cst_3]
  have zero : val_main_cst_2 (F := Ideal) (Shape.Idx.first h_S_) = 0 := Ideal.ofBits_zero .f32
  rw [val_main_v7_apply, zero, zero_add]

end Cert.ReferenceIdeal.RefValue
end
-- ==== Proof.Equation.lean ====
/- The equation between the two programs' results, on a mask of zeros and ones. -/
module

public import proofs.«01_k».proof.Proof.KernelRun
public import proofs.«01_k».proof.Proof.RefValue
public import proofs.«01_k».proof.Pre_mask_is_binary

@[expose] public section

set_option maxRecDepth 16384

noncomputable section

namespace Cert.Equation

open Idealize.ShloMosaic Idealize.ShloMosaic.TcCoe Idealize.SL.Sem
open Cert.Window Cert.KernelIdeal.Arrays Cert.KernelIdeal.KernelRun

/-- The element count as a real number. -/
theorem count_bits : Ideal.ofBits .f32 0x4C930000#32 = ((77070336 : ℝ) : EReal) := by
  simp [Ideal.ofBits, Ideal.ieee, -EReal.coe_mul]; norm_num

/-- Zero and one survive the trip through a byte. -/
theorem byte_trip (d : EReal) (h : d = 0 ∨ d = 1) :
    FloatOps.sitofp (F := Ideal) .f32 (FloatOps.fptosi (F := Ideal) (φ := .f32) 8 d) = d := by
  rcases h with rfl | rfl
  · show ((((Ideal.fptosi 8 ((0 : ℝ) : EReal)).toInt : ℤ) : ℝ) : EReal) = 0
    rw [Ideal.fptosi, Ideal.toIntClamped_coe]; norm_num
  · show ((((Ideal.fptosi 8 ((1 : ℝ) : EReal)).toInt : ℤ) : ℝ) : EReal) = 1
    rw [Ideal.fptosi, Ideal.toIntClamped_coe]; norm_num

/-- A finite sum of real numbers, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Counting off `m` groups of `n`: a double sum is one sum over `m * n` places. -/
theorem sum_groups (m n : ℕ) (f : ℕ → ℝ) : ∑ a : Fin m, ∑ b : Fin n, f (n * a + b) = ∑ k : Fin (m * n), f k := by
  rw [← Fintype.sum_prod_type', ← finProdFinEquiv.sum_comp]
  exact Finset.sum_congr rfl fun x _ => congrArg f (by simp only [finProdFinEquiv_apply_val]; omega)

/-- The complement of the dilation summed over all images is the element count less the dilation summed, whichever way the
    1536 images are grouped. -/
theorem sum_complement (D : ℕ → ℕ → ℕ → EReal) (h : ∀ n p q, D n p q = 0 ∨ D n p q = 1) :
    ∑ a : Fin 16, ∑ b : Fin 96, ∑ p : Fin 224, ∑ q : Fin 224, (1 - D (96 * a + b) p q)
      = ((77070336 : ℝ) : EReal) - ∑ g : Fin 192, ∑ b : Fin 8, ∑ p : Fin 224, ∑ q : Fin 224, D (8 * g + b) p q := by
  have hr : ∀ n p q, ∃ r : ℝ, D n p q = (r : EReal) := fun n p q => by
    rcases h n p q with e | e
    · exact ⟨0, e⟩
    · exact ⟨1, e⟩
  choose d hd using hr
  simp only [hd]
  have one : (1 : EReal) = ((1 : ℝ) : EReal) := rfl
  simp only [one, ← EReal.coe_sub, ← coe_sum]
  refine congrArg Real.toEReal ?_
  rw [sum_groups 192 8 (fun n => ∑ p : Fin 224, ∑ q : Fin 224, d n p q),
    sum_groups 16 96 (fun n => ∑ p : Fin 224, ∑ q : Fin 224, (1 - d n p q))]
  simp only [Finset.sum_sub_distrib, Finset.sum_const, Finset.card_univ, Fintype.card_fin, nsmul_eq_mul, mul_one]
  norm_num

section
variable (x1 : FVec Ideal Cert.KernelIdeal.S16x96x218x218 .f32)

/-- The stack's image `96 a + b` is the mask of batch `a`, channel `b`. -/
theorem image_stack (a : Fin 16) (b : Fin 96) (i j : Fin 218) :
    x1 (ix4 a b i j) = image (stack x1) (96 * a.val + b.val) i j := by
  have e (n : Fin 1536) (hn : n.val = 96 * a.val + b.val) : stack x1 (ix3 n i j) = x1 (ix4 a b i j) := by
    pointwise
    have := b.isLt
    exact congrArg x1 ((ix4_inj ..).2 ⟨Fin.ext (by dsimp only; omega), Fin.ext (by dsimp only; omega), rfl, rfl⟩)
  have := a.isLt
  have := b.isLt
  unfold image
  rw [show Fin.ofNat 218 i.val = i from Fin.ext (by simp only [Fin.val_ofNat]; omega),
    show Fin.ofNat 218 j.val = j from Fin.ext (by simp only [Fin.val_ofNat]; omega)]
  exact (e _ (by simp only [Fin.val_ofNat]; omega)).symm

/-- The images of a mask of zeros and ones are images of zeros and ones. -/
theorem image_bin (h : ∀ k, x1 k = 0 ∨ x1 k = 1) (n i j : ℕ) : image (stack x1) n i j = 0 ∨ image (stack x1) n i j = 1 :=
  h _

/-- The kernel program's result is the reference's. -/
theorem result_eq (x0 : FVec Ideal Cert.KernelIdeal.S16x96x224x224 .f32) (h : ∀ k, x1 k = 0 ∨ x1 k = 1) :
    result x0 x1 = Cert.ReferenceIdeal.Read.val_main_v11 (F := Ideal) x0 x1 := by
  have hD : ∀ n p q, dil (image (stack x1) n) p q = 0 ∨ dil (image (stack x1) n) p q = 1 :=
    fun n p q => dil_bin _ (image_bin x1 h n) p q
  have hm (a : Fin 16) (b : Fin 96) (p q : Fin 224) : Cert.ReferenceIdeal.Read.val_main_v6 (F := Ideal) x1 (ix4 a b p q)
      = 1 - dil (image (stack x1) (96 * a.val + b.val)) p q := by
    rw [Cert.ReferenceIdeal.RefValue.block_mask_apply x1 a b p q _ (image_stack x1 a b), max_eq_left]
    rcases hD (96 * a.val + b.val) p q with e | e <;> rw [e]
    exact zero_le_one
  have hs : ∑ k : Cert.ReferenceIdeal.S16x96x224x224.Idx, Cert.ReferenceIdeal.Read.val_main_v6 (F := Ideal) x1 k
      = Ideal.ofBits .f32 0x4C930000#32 - ∑ g : Fin 192, ∑ b : Fin 8, counts (stack x1) (ix3 g 0 b) := by
    rw [sum_idx4, count_bits]
    simp only [hm]
    exact sum_complement (fun n p q => dil (image (stack x1) n) p q) hD
  funext j
  rw [Cert.ReferenceIdeal.RefValue.result_apply, hs]
  idx_vars j
  rw [hm]
  unfold result
  pointwise
  have hj : j0.val * 96 + j1.val < 1536 := by
    have := j0.isLt; have := j1.isLt; omega
  have hx : shapeCast Cert.KernelIdeal.S1536x224x224 x0 Cert.KernelIdeal.Gen.shapeCasts_S16x96x224x224_S1536x224x224
      (ix3 ⟨j0.val * 96 + j1.val, hj⟩ j2 j3) = x0 (ix4 j0 j1 j2 j3) := by
    pointwise
  have hb : FloatOps.sitofp (F := Ideal) .f32 (bytes (stack x1) (ix3 ⟨j0.val * 96 + j1.val, hj⟩ j2 j3))
      = dil (image (stack x1) (96 * j0.val + j1.val)) j2 j3 :=
    (byte_trip _ (hD (j0.val * 96 + j1.val) j2 j3)).trans
      (congrArg (fun n => dil (image (stack x1) n) j2 j3) (by omega))
  unfold scaled
  rw [hx, hb, mul_assoc]

end

/-- The stated precondition says just that every mask value is zero or one. -/
theorem binary_of_pre [Cert.Pre_mask_is_binary.Facts] (x0 : FVec Ideal Cert.Pre_mask_is_binary.S16x96x224x224 .f32)
    (x1 : FVec Ideal Cert.Pre_mask_is_binary.S16x96x218x218 .f32) (k : Cert.Pre_mask_is_binary.S16x96x218x218.Idx)
    (h : Cert.Pre_mask_is_binary.fn x0 x1 k = 1#1) : x1 k = 0 ∨ x1 k = 1 := by
  revert h
  idx_vars k
  pointwise [Cert.Pre_mask_is_binary.fn]
  intro h
  by_contra hn
  obtain ⟨h0, h1⟩ := not_or.1 hn
  rw [decide_eq_false h0, decide_eq_false h1] at h
  exact absurd h (by decide)

end Cert.Equation
end
-- ==== Proof.lean ====
/- The five claims, assembled: the three frames, the idealization (which rewrote nothing), and the equality of the two
   programs' results on a mask of zeros and ones. -/
module

public import proofs.«01_k».proof.Defs
public import proofs.«01_k».proof.Proof.Gen.Kernel.Frame
public import proofs.«01_k».proof.Proof.Equation
public import Idealize.ShloMosaic.Lib.Quiescent

@[expose] public section

noncomputable section

namespace Cert.Proof

open Idealize.ShloMosaic Idealize.ShloMosaic.TcCoe Idealize.SL.Sem

/-- The side condition the precondition states. -/
instance preFacts : Cert.Pre_mask_is_binary.Facts where
  bcast_S_S16x96x218x218 := by decide

/-- The reference's frame: its run leaves the arguments alone, and it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- The value claim: on a mask of zeros and ones the two programs' result arrays are equal. -/
theorem algebraic : Cert.algebraic_KernelIdeal_ReferenceIdeal_pre_mask_is_binary := by
  intro m g m' g' hpre hagree
  refine ⟨fun c => Cert.KernelIdeal.KernelRun.result
    (m ((c : Thread Cert.KernelIdeal.nD Cert.KernelIdeal.τ).loc Cert.KernelIdeal.main_arg0))
    (m ((c : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KernelRun.final_result m g c), (h c).2⟩)
      (Cert.KernelIdeal.KernelRun.run_result m g)
  · refine (θ_run Cert.ReferenceIdeal.defs _ _).mono (fun _ h c => ⟨(h c).1.trans ?_, (h c).2⟩)
      (Cert.ReferenceIdeal.Value.run (F := Ideal) m' g')
    rw [(hagree c).1, (hagree c).2]
    exact (Cert.ReferenceIdeal.Read.val_main_v11_eq _ _).trans
      (Cert.Equation.result_eq _ _ fun k => Cert.Equation.binary_of_pre _ _ k (congrFun (hpre c) k)).symm

theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, fun m g _ => reference_frame m g, fun m g _ => reference_frame m g,
    trivial, algebraic⟩

end Cert.Proof

end
